-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)) (v7 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_v1_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v170) = v4 c
          ∧ r.2.mem ((c.tc : Thread Cert.ReferenceIdeal.nD Cert.ReferenceIdeal.τ).loc Cert.ReferenceIdeal.main_v200) = v5 c
          ∧ r.2.mem ((c.tc : Thread Cert.ReferenceIdeal.nD Cert.ReferenceIdeal.τ).loc Cert.ReferenceIdeal.main_v230) = v6 c
          ∧ r.2.mem ((c.tc : Thread Cert.ReferenceIdeal.nD Cert.ReferenceIdeal.τ).loc Cert.ReferenceIdeal.main_v260) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x768 : Shape := ⟨2, ![8192, 768]⟩
abbrev S64x768 : Shape := ⟨2, ![64, 768]⟩
abbrev S_ : Shape := ⟨0, ![]⟩
abbrev S512x768 : Shape := ⟨2, ![512, 768]⟩

abbrev nBuf : Table → Nat
  | .hbm => 9
  | .local .tc .vmem => 14
  | .local .scVector .vmem => 2
  | _ => 0

abbrev bufTy : (tb : Table) → Fin (nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x768, .f32⟩
  | .local .tc .vmem, ⟨0, _⟩ => ⟨S512x768, .f32⟩
  | .local .tc .vmem, ⟨1, _⟩ => ⟨S512x768, .f32⟩
  | .local .tc .vmem, ⟨2, _⟩ => ⟨S512x768, .f32⟩
  | .local .tc .vmem, ⟨3, _⟩ => ⟨S512x768, .f32⟩
  | .local .tc .vmem, ⟨4, _⟩ => ⟨S512x768, .f32⟩
  | .local .tc .vmem, ⟨5, _⟩ => ⟨S512x768, .f32⟩
  | .local .tc .vmem, ⟨6, _⟩ => ⟨S512x768, .f32⟩
  | .local .tc .vmem, ⟨7, _⟩ => ⟨S512x768, .f32⟩
  | .local .tc .vmem, ⟨8, _⟩ => ⟨S512x768, .f32⟩
  | .local .tc .vmem, ⟨9, _⟩ => ⟨S512x768, .f32⟩
  | .local .tc .vmem, ⟨10, _⟩ => ⟨S512x768, .f32⟩
  | .local .tc .vmem, ⟨11, _⟩ => ⟨S512x768, .f32⟩
  | .local .tc .vmem, ⟨12, _⟩ => ⟨S512x768, .f32⟩
  | .local .tc .vmem, ⟨13, _⟩ => ⟨S512x768, .f32⟩
  | .local .scVector .vmem, ⟨0, _⟩ => ⟨S64x768, .f32⟩
  | .local .scVector .vmem, ⟨1, _⟩ => ⟨S64x768, .f32⟩
  | _, _ => ⟨S8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_0 : BitVec 32 := 0#32
  ![v3.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x768 : Shape := ⟨2, ![8192, 768]⟩
abbrev S_ : Shape := ⟨0, ![]⟩
abbrev S8192x1 : Shape := ⟨2, ![8192, 1]⟩
abbrev S8192x8 : Shape := ⟨2, ![8192, 8]⟩
abbrev S8192 : Shape := ⟨1, ![8192]⟩
abbrev S8192x1x1 : Shape := ⟨3, ![8192, 1, 1]⟩
abbrev S8192x1x2 : Shape := ⟨3, ![8192, 1, 2]⟩

abbrev nBuf : Space → Nat
  | .hbm => 343
  | .vmem => 0
  | .smem => 0
  | _ => 0

abbrev hbmTy0_0 (i : Nat) : BufTy := match i % 128 with
  | 0 => ⟨S8192x768, .f32⟩
  | 1 => ⟨S_, .i32⟩
  | 2 => ⟨S8192x1, .i32⟩
  | 3 => ⟨S_, .f32⟩
  | 4 => ⟨S8192x8, .f32⟩
  | 5 => ⟨S8192, .i32⟩
  | 6 => ⟨S8192x1, .i32⟩
  | 7 => ⟨S_, .i32⟩
  | 8 => ⟨S8192x1, .i32⟩
  | 9 => ⟨S8192x1, .i1⟩
  | 10 => ⟨S_, .i32⟩
  | 11 => ⟨S8192x1, .i32⟩
  | 12 => ⟨S8192x1, .i32⟩
  | 13 => ⟨S8192x1, .i32⟩
  | 14 => ⟨S_, .i32⟩
  | 15 => ⟨S8192x1, .i32⟩
  | 16 => ⟨S8192x1, .i1⟩
  | 17 => ⟨S_, .i32⟩
  | 18 => ⟨S8192x1, .i32⟩
  | 19 => ⟨S8192x1, .i32⟩
  | 20 => ⟨S8192x1, .i32⟩
  | 21 => ⟨S8192x1x1, .i32⟩
  | 22 => ⟨S8192x1x1, .i32⟩
  | 23 => ⟨S8192x1x2, .i32⟩
  | 24 => ⟨S_, .f32⟩
  | 25 => ⟨S8192x1, .f32⟩
  | 26 => ⟨S8192x8, .f32⟩
  | 27 => ⟨S8192x1, .f32⟩
  | 28 => ⟨S8192x1, .i32⟩
  | 29 => ⟨S8192, .i32⟩
  | 30 => ⟨S8192, .f32⟩
  | 31 => ⟨S_, .i32⟩
  | 32 => ⟨S8192, .i32⟩
  | 33 => ⟨S8192, .i1⟩
  | 34 => ⟨S8192, .i1⟩
  | 35 => ⟨S8192, .i32⟩
  | 36 => ⟨S8192, .i1⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192, .i1⟩
  | 47 => ⟨S8192, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x768, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192, .f32⟩
  | 66 => ⟨S8192, .f32⟩
  | 67 => ⟨S8192x1, .f32⟩
  | 68 => ⟨S8192x768, .f32⟩
  | 69 => ⟨S8192x768, .f32⟩
  | 70 => ⟨S_, .i32⟩
  | 71 => ⟨S8192, .i32⟩
  | 72 => ⟨S8192, .i1⟩
  | 73 => ⟨S8192, .i1⟩
  | 74 => ⟨S8192, .i32⟩
  | 75 => ⟨S8192, .i1⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192, .i1⟩
  | 86 => ⟨S8192, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x768, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192, .f32⟩
  | 105 => ⟨S8192, .f32⟩
  | 106 => ⟨S8192x1, .f32⟩
  | 107 => ⟨S8192x768, .f32⟩
  | 108 => ⟨S8192x768, .f32⟩
  | 109 => ⟨S_, .i32⟩
  | 110 => ⟨S8192, .i32⟩
  | 111 => ⟨S8192, .i1⟩
  | 112 => ⟨S8192, .i1⟩
  | 113 => ⟨S8192, .i32⟩
  | 114 => ⟨S8192, .i1⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192, .i1⟩
  | 125 => ⟨S8192, .f32⟩
  | 126 => ⟨S_, .i32⟩
  | 127 => ⟨S8192, .i32⟩
  | _ => ⟨S8192x768, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x768, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192, .f32⟩
  | 16 => ⟨S8192, .f32⟩
  | 17 => ⟨S8192x1, .f32⟩
  | 18 => ⟨S8192x768, .f32⟩
  | 19 => ⟨S8192x768, .f32⟩
  | 20 => ⟨S_, .i32⟩
  | 21 => ⟨S8192, .i32⟩
  | 22 => ⟨S8192, .i1⟩
  | 23 => ⟨S8192, .i1⟩
  | 24 => ⟨S8192, .i32⟩
  | 25 => ⟨S8192, .i1⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192, .i1⟩
  | 36 => ⟨S8192, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x768, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192, .f32⟩
  | 55 => ⟨S8192, .f32⟩
  | 56 => ⟨S8192x1, .f32⟩
  | 57 => ⟨S8192x768, .f32⟩
  | 58 => ⟨S8192x768, .f32⟩
  | 59 => ⟨S_, .i32⟩
  | 60 => ⟨S8192, .i32⟩
  | 61 => ⟨S8192, .i1⟩
  | 62 => ⟨S8192, .i1⟩
  | 63 => ⟨S8192, .i32⟩
  | 64 => ⟨S8192, .i1⟩
  | 65 => ⟨S8192, .i32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192, .i1⟩
  | 75 => ⟨S8192, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x768, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S8192, .f32⟩
  | 94 => ⟨S8192, .f32⟩
  | 95 => ⟨S8192x1, .f32⟩
  | 96 => ⟨S8192x768, .f32⟩
  | 97 => ⟨S8192x768, .f32⟩
  | 98 => ⟨S_, .i32⟩
  | 99 => ⟨S8192, .i32⟩
  | 100 => ⟨S8192, .i1⟩
  | 101 => ⟨S8192, .i1⟩
  | 102 => ⟨S8192, .i32⟩
  | 103 => ⟨S8192, .i1⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192, .i1⟩
  | 114 => ⟨S8192, .f32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x768, .f32⟩
  | 124 => ⟨S_, .i32⟩
  | 125 => ⟨S8192, .i32⟩
  | 126 => ⟨S8192, .i1⟩
  | 127 => ⟨S_, .i32⟩
  | _ => ⟨S8192x768, .f32⟩

abbrev hbmTy0_2 (i : Nat) : BufTy := match i % 128 with
  | 0 => ⟨S8192, .i32⟩
  | 1 => ⟨S8192, .i32⟩
  | 2 => ⟨S8192, .i32⟩
  | 3 => ⟨S8192x1, .i32⟩
  | 4 => ⟨S8192, .f32⟩
  | 5 => ⟨S8192, .f32⟩
  | 6 => ⟨S8192x1, .f32⟩
  | 7 => ⟨S8192x768, .f32⟩
  | 8 => ⟨S8192x768, .f32⟩
  | 9 => ⟨S_, .i32⟩
  | 10 => ⟨S8192, .i32⟩
  | 11 => ⟨S8192, .i1⟩
  | 12 => ⟨S8192, .i1⟩
  | 13 => ⟨S8192, .i32⟩
  | 14 => ⟨S8192, .i1⟩
  | 15 => ⟨S8192, .i32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192, .i1⟩
  | 25 => ⟨S8192, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x768, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192, .f32⟩
  | 44 => ⟨S8192, .f32⟩
  | 45 => ⟨S8192x1, .f32⟩
  | 46 => ⟨S8192x768, .f32⟩
  | 47 => ⟨S8192x768, .f32⟩
  | 48 => ⟨S_, .i32⟩
  | 49 => ⟨S8192, .i32⟩
  | 50 => ⟨S8192, .i1⟩
  | 51 => ⟨S8192, .i1⟩
  | 52 => ⟨S8192, .i32⟩
  | 53 => ⟨S8192, .i1⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192, .i1⟩
  | 64 => ⟨S8192, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x768, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192, .f32⟩
  | 83 => ⟨S8192, .f32⟩
  | 84 => ⟨S8192x1, .f32⟩
  | 85 => ⟨S8192x768, .f32⟩
  | 86 => ⟨S8192x768, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1_0 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_v0 : Ref sig .tc := ⟨.hbm, 74, rfl⟩
abbrev main_call1_v1_0 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call2_v0 : Ref sig .tc := ⟨.hbm, 113, rfl⟩
abbrev main_call2_v1_0 : Ref sig .tc := ⟨.hbm, 114, rfl⟩
abbrev main_v84 : Ref sig .tc := ⟨.hbm, 115, rfl⟩
abbrev main_c_20 : Ref sig .tc := ⟨.hbm, 116, rfl⟩
abbrev main_v85 : Ref sig .tc := ⟨.hbm, 117, rfl⟩
abbrev main_v86 : Ref sig .tc := ⟨.hbm, 118, rfl⟩
abbrev main_c_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_22 : Ref sig .tc := ⟨.hbm, 126, rfl⟩
abbrev main_v93 : Ref sig .tc := ⟨.hbm, 127, rfl⟩
abbrev main_v94 : Ref sig .tc := ⟨.hbm, 128, rfl⟩
abbrev main_c_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_24 : Ref sig .tc := ⟨.hbm, 135, rfl⟩
abbrev main_v100 : Ref sig .tc := ⟨.hbm, 136, rfl⟩
abbrev main_v101 : Ref sig .tc := ⟨.hbm, 137, rfl⟩
abbrev main_c_25 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_26 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_call3_v0 : Ref sig .tc := ⟨.hbm, 152, rfl⟩
abbrev main_call3_v1_0 : Ref sig .tc := ⟨.hbm, 153, rfl⟩
abbrev main_v114 : Ref sig .tc := ⟨.hbm, 154, rfl⟩
abbrev main_c_27 : Ref sig .tc := ⟨.hbm, 155, rfl⟩
abbrev main_v115 : Ref sig .tc := ⟨.hbm, 156, rfl⟩
abbrev main_v116 : Ref sig .tc := ⟨.hbm, 157, rfl⟩
abbrev main_c_28 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_29 : Ref sig .tc := ⟨.hbm, 165, rfl⟩
abbrev main_v123 : Ref sig .tc := ⟨.hbm, 166, rfl⟩
abbrev main_v124 : Ref sig .tc := ⟨.hbm, 167, rfl⟩
abbrev main_c_30 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_31 : Ref sig .tc := ⟨.hbm, 174, rfl⟩
abbrev main_v130 : Ref sig .tc := ⟨.hbm, 175, rfl⟩
abbrev main_v131 : Ref sig .tc := ⟨.hbm, 176, rfl⟩
abbrev main_c_32 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_33 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_call4_v0 : Ref sig .tc := ⟨.hbm, 191, rfl⟩
abbrev main_call4_v1_0 : Ref sig .tc := ⟨.hbm, 192, rfl⟩
abbrev main_v144 : Ref sig .tc := ⟨.hbm, 193, rfl⟩
abbrev main_c_34 : Ref sig .tc := ⟨.hbm, 194, rfl⟩
abbrev main_v145 : Ref sig .tc := ⟨.hbm, 195, rfl⟩
abbrev main_v146 : Ref sig .tc := ⟨.hbm, 196, rfl⟩
abbrev main_c_35 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_c_36 : Ref sig .tc := ⟨.hbm, 204, rfl⟩
abbrev main_v153 : Ref sig .tc := ⟨.hbm, 205, rfl⟩
abbrev main_v154 : Ref sig .tc := ⟨.hbm, 206, rfl⟩
abbrev main_c_37 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_c_38 : Ref sig .tc := ⟨.hbm, 213, rfl⟩
abbrev main_v160 : Ref sig .tc := ⟨.hbm, 214, rfl⟩
abbrev main_v161 : Ref sig .tc := ⟨.hbm, 215, rfl⟩
abbrev main_c_39 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_40 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_call5_v0 : Ref sig .tc := ⟨.hbm, 230, rfl⟩
abbrev main_call5_v1_0 : Ref sig .tc := ⟨.hbm, 231, rfl⟩
abbrev main_v174 : Ref sig .tc := ⟨.hbm, 232, rfl⟩
abbrev main_c_41 : Ref sig .tc := ⟨.hbm, 233, rfl⟩
abbrev main_v175 : Ref sig .tc := ⟨.hbm, 234, rfl⟩
abbrev main_v176 : Ref sig .tc := ⟨.hbm, 235, rfl⟩
abbrev main_c_42 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_c_43 : Ref sig .tc := ⟨.hbm, 243, rfl⟩
abbrev main_v183 : Ref sig .tc := ⟨.hbm, 244, rfl⟩
abbrev main_v184 : Ref sig .tc := ⟨.hbm, 245, rfl⟩
abbrev main_c_44 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_c_45 : Ref sig .tc := ⟨.hbm, 252, rfl⟩
abbrev main_v190 : Ref sig .tc := ⟨.hbm, 253, rfl⟩
abbrev main_v191 : Ref sig .tc := ⟨.hbm, 254, rfl⟩
abbrev main_c_46 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_c_47 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_call6_v0 : Ref sig .tc := ⟨.hbm, 269, rfl⟩
abbrev main_call6_v1_0 : Ref sig .tc := ⟨.hbm, 270, rfl⟩
abbrev main_v204 : Ref sig .tc := ⟨.hbm, 271, rfl⟩
abbrev main_c_48 : Ref sig .tc := ⟨.hbm, 272, rfl⟩
abbrev main_v205 : Ref sig .tc := ⟨.hbm, 273, rfl⟩
abbrev main_v206 : Ref sig .tc := ⟨.hbm, 274, rfl⟩
abbrev main_c_49 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_c_50 : Ref sig .tc := ⟨.hbm, 282, rfl⟩
abbrev main_v213 : Ref sig .tc := ⟨.hbm, 283, rfl⟩
abbrev main_v214 : Ref sig .tc := ⟨.hbm, 284, rfl⟩
abbrev main_c_51 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_c_52 : Ref sig .tc := ⟨.hbm, 291, rfl⟩
abbrev main_v220 : Ref sig .tc := ⟨.hbm, 292, rfl⟩
abbrev main_v221 : Ref sig .tc := ⟨.hbm, 293, rfl⟩
abbrev main_c_53 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_c_54 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_call7_v0 : Ref sig .tc := ⟨.hbm, 308, rfl⟩
abbrev main_call7_v1_0 : Ref sig .tc := ⟨.hbm, 309, rfl⟩
abbrev main_v234 : Ref sig .tc := ⟨.hbm, 310, rfl⟩
abbrev main_c_55 : Ref sig .tc := ⟨.hbm, 311, rfl⟩
abbrev main_v235 : Ref sig .tc := ⟨.hbm, 312, rfl⟩
abbrev main_v236 : Ref sig .tc := ⟨.hbm, 313, rfl⟩
abbrev main_c_56 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_c_57 : Ref sig .tc := ⟨.hbm, 321, rfl⟩
abbrev main_v243 : Ref sig .tc := ⟨.hbm, 322, rfl⟩
abbrev main_v244 : Ref sig .tc := ⟨.hbm, 323, rfl⟩
abbrev main_c_58 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_c_59 : Ref sig .tc := ⟨.hbm, 330, rfl⟩
abbrev main_v250 : Ref sig .tc := ⟨.hbm, 331, rfl⟩
abbrev main_v251 : Ref sig .tc := ⟨.hbm, 332, rfl⟩
abbrev main_c_60 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩

abbrev nD : Nat := 1
abbrev τ : Topo := Topo.v7x

variable {F : FTy → Type} [FloatOps F]
-- ==== Proof.Tiles.lean ====
/-
  The SparseCore half of the program, up to its obligation: thirty-two tiles, each copying 256 rows of the argument
  to the same rows of the first result in four chunks of 64 rows, through two buffers of the tile's own. Everything
  here is over any float values `F`, so that one run serves both printed programs' frames and the value claim.

  The two (8192, 768) arrays are cut into 128 chunks of 64 rows; tile `(c, s)` has the four chunks
  `8 s + 4 c + 0 … 3`. A tile is handed its chunks of both arrays, and hands them back with the result's chunks
  holding the argument's contents.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The labels of the kernels and of the zero fill's pipeline. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and no buffer or semaphore is where it may not be. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the launch handshakes' rounds, the pipeline's rounds, the transfers' counters -/

/-- The handshakes' ghost state. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' ghost state inside the whole. -/
abbrev EH : Emb UH (MT nD τ sig (HIx 1) (Elt F) ℕ UU ℕ) := embL

/-! ## The arrays, the memrefs the body gets, and the chunks -/

/-- The argument, and the result the SparseCores write, as locations of device `d`. -/
abbrev aLoc (d : Dev nD) : Loc nD τ sig := (SparseCore.T d).loc main_arg0
abbrev oLoc (d : Dev nD) : Loc nD τ sig := (SparseCore.T d).loc main_v0

local notation "aM" => (Memref.whole Cert.KernelIdeal.main_arg0_scv : Memref Cert.KernelIdeal.sig Kind.scVector Space.hbm Cert.KernelIdeal.S8192x768 EltTy.f32)
local notation "oM" => (Memref.whole Cert.KernelIdeal.main_v0_scv : Memref Cert.KernelIdeal.sig Kind.scVector Space.hbm Cert.KernelIdeal.S8192x768 EltTy.f32)
local notation "b0M" => (Memref.whole Cert.KernelIdeal.cc0_scratch0 : Memref Cert.KernelIdeal.sig Kind.scVector Space.vmem Cert.KernelIdeal.S64x768 EltTy.f32)
local notation "b1M" => (Memref.whole Cert.KernelIdeal.cc0_scratch1 : Memref Cert.KernelIdeal.sig Kind.scVector Space.vmem Cert.KernelIdeal.S64x768 EltTy.f32)

/-- The rows divide into 128 chunks. -/
theorem cuts : 128 ∣ S8192x768.size 0 := ⟨64, rfl⟩

/-- Chunk `k`: rows `64 k … 64 k + 63`. -/
abbrev chunk (k : Fin 128) : Rect S8192x768 := Rect.part (s := S8192x768) (a₀ := 0) cuts k
/-- Its elements. -/
abbrev chunkSet (k : Fin 128) : Finset S8192x768.Idx := (chunk k).set

/-- The number of the `r`-th chunk of tile `(c, s)`. -/
def chunkNo (c : Fin 2) (s : Fin 16) (r : Fin 4) : Fin 128 := ⟨8 * s.val + 4 * c.val + r.val, by omega⟩

variable (m : (ℓ : Loc nD τ sig) → Buf (Elt F) ℓ) (ρ : Dev nD → PrngReg)

/-- What the first result holds at the end: the argument's contents. -/
def copied (d : Dev nD) : Buf (Elt F) (oLoc d) := m (aLoc d)

/-- Chunk `k` of the argument, at its launch contents; chunk `k` of the result, at contents `f`. -/
abbrev aPiece (d : Dev nD) (k : Fin 128) : sProp 𝕄 := aLoc d ↦[chunkSet k]{fullShare} m (aLoc d)
abbrev oPiece (d : Dev nD) (f : Buf (Elt F) (oLoc d)) (k : Fin 128) : sProp 𝕄 := oLoc d ↦[chunkSet k]{fullShare} f

/-- A tile's four chunks of the argument, and of the result at contents `f`. -/
abbrev tilePieces (d : Dev nD) (f : Buf (Elt F) (oLoc d)) (c : Fin 2) (s : Fin 16) : sProp 𝕄 :=
  bigSep Finset.univ fun r : Fin 4 => iprop(aPiece m d (chunkNo c s r) ∗ oPiece d f (chunkNo c s r))

/-- The copy runs on two SparseCores. -/
theorem nCore_zero : (K (F := F)).nCore 0 = 2 := rfl
/-- The copy runs on sixteen tiles of each. -/
theorem nSub_zero : (K (F := F)).nSub 0 = 16 := rfl

/-- A SparseCore's tiles' chunks. -/
abbrev corePieces (d : Dev nD) (f : Buf (Elt F) (oLoc d)) (c : Fin ((K (F := F)).nCore 0)) : sProp 𝕄 :=
  bigSep Finset.univ fun i : Fin ((K (F := F)).nSub 0) => tilePieces m d f (Fin.cast nCore_zero c) (Fin.cast nSub_zero i)

/-- The call carries to each tile its chunks, the result's at their launch contents, and brings them back with the
    result's at the argument's contents. -/
def P : (K (F := F)).Pay (nD := nD) (Val := Elt F) (Name := ℕ) (U := UU) where
  st := fun q d c => match q with | 0 => corePieces m d (m (oLoc d)) c
  dn := fun q d c => match q with | 0 => corePieces m d (copied m d) c
  go := fun q d c i => match q with | 0 => tilePieces m d (m (oLoc d)) (Fin.cast nCore_zero c) (Fin.cast nSub_zero i)
  td := fun q d c i => match q with | 0 => tilePieces m d (copied m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePieces m d (m (oLoc d)) c))
  dn q d c := match q with
    | 0 => (inferInstance : BI.Storable (upEmb : UEmb _ 𝕄) (corePieces m d (copied m d) c))
  go q d c i := match q with
    | 0 => (inferInstance : BI.Storable (upEmb : UEmb _ 𝕄) (tilePieces m d (m (oLoc d)) (Fin.cast nCore_zero c) (Fin.cast nSub_zero i)))
  td q d c i := match q with
    | 0 => (inferInstance : BI.Storable (upEmb : UEmb _ 𝕄) (tilePieces m d (copied m d) (Fin.cast nCore_zero c) (Fin.cast nSub_zero i)))

/-- Splitting a SparseCore's chunks over its tiles, and joining them back, is nothing at all. -/
theorem vecSplit : (K (F := F)).VecSplit' (P m) 0 := by
  intro d c
  show corePieces m d (m (oLoc d)) c ⊢ |={Set.univ}=> iprop(corePieces m d (m (oLoc d)) c ∗ (corePieces m d (copied m d) c -∗ corePieces m d (copied m d) c))
  iintro H; imodintro
  isplitl [H]; · iexact H
  iintro H; iexact H

/-! ## The arrays are their chunks -/

/-- No two tiles or trips share a chunk. -/
theorem chunkNo_injective {p q : Fin 2 × Fin 16 × Fin 4} (h : chunkNo p.1 p.2.1 p.2.2 = chunkNo q.1 q.2.1 q.2.2) : p = q := by
  obtain ⟨c, s, r⟩ := p
  obtain ⟨c', s', r'⟩ := q
  simp only [chunkNo, Fin.mk.injEq] at h
  have e1 : s = s' := Fin.ext (by omega)
  have e2 : c = c' := Fin.ext (by omega)
  have e3 : r = r' := Fin.ext (by omega)
  rw [e1, e2, e3]

/-- Different chunks have no element in common. -/
theorem chunks_apart : ∀ i ∈ (Finset.univ : Finset (Fin 128)), ∀ j ∈ (Finset.univ : Finset (Fin 128)), i ≠ j → Disjoint (chunkSet i) (chunkSet j) :=
  fun _ _ _ _ h => Rect.part_disjoint cuts h

/-- The chunks are the whole array. -/
theorem chunks_cover : (Finset.univ : Finset (Fin 128)).biUnion chunkSet = Finset.univ := Rect.biUnion_part cuts

/-- The chunks, numbered by SparseCore, tile and turn. -/
def chunkEquiv : Fin 2 × Fin 16 × Fin 4 ≃ Fin 128 :=
  Equiv.ofBijective (fun p => chunkNo p.1 p.2.1 p.2.2)
    ((Fintype.bijective_iff_injective_and_card _).mpr ⟨fun _ _ h => chunkNo_injective h, by simp⟩)

/-- A conjunction over the 128 chunks is one over SparseCores, tiles and turns. -/
theorem bigSep_chunks (Φ : Fin 128 → sProp 𝕄) :
    bigSep Finset.univ Φ = bigSep Finset.univ fun c : Fin 2 => bigSep Finset.univ fun s : Fin 16 => bigSep Finset.univ fun r : Fin 4 => Φ (chunkNo c s r) := by
  rw [BI.bigSep_univ_equiv chunkEquiv Φ, BI.bigSep_univ_prod]
  refine bigSep_congr fun c _ => ?_
  rw [BI.bigSep_univ_prod]
  rfl

/-- The two arrays whole are every SparseCore's pieces of them. -/
theorem arrays_pieces (d : Dev nD) (f : Buf (Elt F) (oLoc d)) :
    (bigSep Finset.univ fun c : Fin ((K (F := F)).nCore 0) => corePieces m d f c)
      = (iprop((aLoc d ↦{fullShare} m (aLoc d)) ∗ (oLoc d ↦{fullShare} f)) : sProp 𝕄) := by
  refine (bigSep_chunks (F := F) fun k => iprop(aPiece m d k ∗ oPiece d f k)).symm.trans ?_
  rw [bigSep_sep']
  unfold aPiece oPiece
  rw [← pointsTo_biUnion Finset.univ (ℓ := aLoc d) chunkSet chunks_apart, ← pointsTo_biUnion Finset.univ (ℓ := oLoc d) chunkSet chunks_apart, chunks_cover]

/-! ## The task -/

section Tile

variable [FloatOps F] (d : Dev nD) (L : grid0.Coords)

/-- The SparseCore of a grid point. -/
abbrev cV (L : grid0.Coords) : Fin τ.nSC := (L 0).castLE hcore0
/-- The tile of a grid point. -/
abbrev jV (L : grid0.Coords) : Fin τ.nSub := (L 1).castLE hsub0
abbrev cL (L : grid0.Coords) : Fin 2 := L 0
abbrev jL (L : grid0.Coords) : Fin 16 := L 1

/-- The four rectangles the body addresses, in both arrays, as it spells them. -/
abbrev rectK0 (L : grid0.Coords) : Rect S8192x768 := Rect.unit (s := S8192x768) (k0_off1 L 0#32) S64x768.size (k0_off1_inb L 0)
abbrev rectK1 (L : grid0.Coords) : Rect S8192x768 := Rect.unit (s := S8192x768) (k0_off1 L 64#32) S64x768.size (k0_off1_inb L 1)
abbrev rectK2 (L : grid0.Coords) : Rect S8192x768 := Rect.unit (s := S8192x768) (k0_off1 L 128#32) S64x768.size (k0_off1_inb L 2)
abbrev rectK3 (L : grid0.Coords) : Rect S8192x768 := Rect.unit (s := S8192x768) (k0_off1 L 192#32) S64x768.size (k0_off1_inb L 3)

omit [FloatOps F] in
/-- Turn `r`'s rectangle is the tile's `r`-th chunk. -/
theorem rect_chunk (r : Fin 4) :
    Rect.unit (s := S8192x768) (k0_off1 L (BitVec.ofNat 32 (64 * r.val))) S64x768.size (k0_off1_inb L r) = chunk (chunkNo (cL L) (jL L) r) := by
  unfold chunk Rect.part Rect.block
  congr 1 <;> funext a
  · rw [k0_off1_eq]
    match a with
    | 0 => simp [Shape.partIx, Shape.partSize, chunkNo, cL, jL]; omega
    | 1 => simp [Shape.partIx, Shape.partSize]
  · match a with
    | 0 => simp [Shape.partSize]
    | 1 => simp [Shape.partSize]

omit [FloatOps F] in
/-- A slice of the argument that the program takes at a chunk's rectangle is that chunk's elements. -/
theorem set_aSlice {R : Rect S8192x768} {r : Fin 4} (h : R = chunk (chunkNo (cL L) (jL L) r)) :
    ((aM).view.slice R).set = chunkSet (chunkNo (cL L) (jL L) r) := by
  subst h
  show ((View.whole (main_arg0_scv : Ref sig .scVector)).slice (chunk (chunkNo (cL L) (jL L) r))).set = _
  rw [View.set_slice]; exact Finset.map_refl
omit [FloatOps F] in
/-- A slice of the result that the program takes at a chunk's rectangle is that chunk's elements. -/
theorem set_oSlice {R : Rect S8192x768} {r : Fin 4} (h : R = chunk (chunkNo (cL L) (jL L) r)) :
    ((oM).view.slice R).set = chunkSet (chunkNo (cL L) (jL L) r) := by
  subst h
  show ((View.whole (main_v0_scv : Ref sig .scVector)).slice (chunk (chunkNo (cL L) (jL L) r))).set = _
  rw [View.set_slice]; exact Finset.map_refl

omit [FloatOps F] in
/-- A chunk of the argument, in the body's spelling. -/
theorem pts_a {R : Rect S8192x768} {r : Fin 4} (h : R = chunk (chunkNo (cL L) (jL L) r)) (hR : ∀ a, R.stride a = 1) :
    (((aM).slice R hR).view.loc (V d (cV L) (jV L)) ↦[((aM).slice R hR).view.set]{fullShare} m (aLoc d) : sProp 𝕄) = aPiece m d (chunkNo (cL L) (jL L) r) := by
  show (aLoc d ↦[((aM).view.slice R).set]{fullShare} m (aLoc d) : sProp 𝕄) = _
  rw [set_aSlice L h]
omit [FloatOps F] in
/-- A chunk of the result, in the body's spelling. -/
theorem pts_o {R : Rect S8192x768} {r : Fin 4} (h : R = chunk (chunkNo (cL L) (jL L) r)) (hR : ∀ a, R.stride a = 1) (f : Buf (Elt F) (oLoc d)) :
    (((oM).slice R hR).view.loc (V d (cV L) (jV L)) ↦[((oM).slice R hR).view.set]{fullShare} f : sProp 𝕄) = oPiece d f (chunkNo (cL L) (jL L) r) := by
  show (oLoc d ↦[((oM).view.slice R).set]{fullShare} f : sProp 𝕄) = _
  rw [set_oSlice L h]
omit [FloatOps F] in
/-- The first buffer held whole, named as the program names it. -/
theorem pts_b0 (f : Buf (Elt F) ((V d (cV L) (jV L)).loc cc0_scratch0)) :
    ((b0M).view.loc (V d (cV L) (jV L)) ↦{fullShare} f : sProp 𝕄) = (V d (cV L) (jV L)).loc cc0_scratch0 ↦{fullShare} f := rfl
omit [FloatOps F] in
/-- The second buffer held whole, named as the program names it. -/
theorem pts_b1 (f : Buf (Elt F) ((V d (cV L) (jV L)).loc cc0_scratch1)) :
    ((b1M).view.loc (V d (cV L) (jV L)) ↦{fullShare} f : sProp 𝕄) = (V d (cV L) (jV L)).loc cc0_scratch1 ↦{fullShare} f := rfl

/-- The three transfer cells the body names: the gathers', and the two buffers' scatters'. -/
abbrev gCell (d : Dev nD) (c : Fin τ.nSC) (i : Fin τ.nSub) : GSem nD τ sig := (V d c i, .dma cc0_scratch2.sem)
abbrev s0Cell (d : Dev nD) (c : Fin τ.nSC) (i : Fin τ.nSub) : GSem nD τ sig := (V d c i, .dma cc0_scratch3.sem)
abbrev s1Cell (d : Dev nD) (c : Fin τ.nSC) (i : Fin τ.nSub) : GSem nD τ sig := (V d c i, .dma cc0_scratch4.sem)

omit [FloatOps F] in
/-- The tile's own semaphores at zero are those three at zero, and the rest. -/
theorem ownSems0_V :
    (ownSems0 (V d (cV L) (jV L)) : sProp 𝕄)
      = iprop(semVal (gCell d (cV L) (jV L)) 0 ∗ semVal (s0Cell d (cV L) (jV L)) 0 ∗ semVal (s1Cell d (cV L) (jV L)) 0
          ∗ bigSep ((((ownCells (V d (cV L) (jV L))).erase (gCell d (cV L) (jV L))).erase (s0Cell d (cV L) (jV L))).erase (s1Cell d (cV L) (jV L)))
              fun g => semVal g 0) := by
  have hg : gCell d (cV L) (jV L) ∈ ownCells (V d (cV L) (jV L)) :=
    mem_ownCells.mpr ⟨rfl, by show (SemLoc.dma cc0_scratch2.sem : SemLoc sig).isScoped .scVector = true; decide⟩
  have h0 : s0Cell d (cV L) (jV L) ∈ ownCells (V d (cV L) (jV L)) :=
    mem_ownCells.mpr ⟨rfl, by show (SemLoc.dma cc0_scratch3.sem : SemLoc sig).isScoped .scVector = true; decide⟩
  have h1 : s1Cell d (cV L) (jV L) ∈ ownCells (V d (cV L) (jV L)) :=
    mem_ownCells.mpr ⟨rfl, by show (SemLoc.dma cc0_scratch4.sem : SemLoc sig).isScoped .scVector = true; decide⟩
  have n0g : s0Cell d (cV L) (jV L) ≠ gCell d (cV L) (jV L) := by simp [s0Cell, gCell]; decide
  have n1g : s1Cell d (cV L) (jV L) ≠ gCell d (cV L) (jV L) := by simp [s1Cell, gCell]; decide
  have n10 : s1Cell d (cV L) (jV L) ≠ s0Cell d (cV L) (jV L) := by simp [s1Cell, s0Cell]; decide
  unfold SparseCore.Cfg.ownSems0
  rw [SparseCore.bigSep_erase' hg, SparseCore.bigSep_erase' (Finset.mem_erase.mpr ⟨n0g, h0⟩),
    SparseCore.bigSep_erase' (Finset.mem_erase.mpr ⟨n10, Finset.mem_erase.mpr ⟨n1g, h1⟩⟩)]

omit [FloatOps F] in
/-- The tile's own buffers are the two it copies through, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hne : (Proc.scVector (τ := τ) (cV L) (jV L)).devRef (cc0_scratch1 : Ref sig .scVector) ≠ (Proc.scVector (cV L) (jV L)).devRef cc0_scratch0 :=
    fun e => absurd (Proc.devRef_injective _ e) (show (cc0_scratch1 : Ref sig .scVector) ≠ cc0_scratch0 by decide)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne,
    SparseCore.Cfg.mem_ownRefs_of_owner (p := Proc.scVector (cV L) (jV L)) (b := (Proc.scVector (cV L) (jV L)).devRef cc0_scratch1) rfl⟩)]

omit [FloatOps F] in
/-- A tile's pieces, one turn after another. -/
theorem tilePieces_eq (f : Buf (Elt F) (oLoc d)) (c : Fin 2) (s : Fin 16) :
    tilePieces m d f c s = iprop((aPiece m d (chunkNo c s 0) ∗ oPiece d f (chunkNo c s 0)) ∗ (aPiece m d (chunkNo c s 1) ∗ oPiece d f (chunkNo c s 1))
      ∗ (aPiece m d (chunkNo c s 2) ∗ oPiece d f (chunkNo c s 2)) ∗ (aPiece m d (chunkNo c s 3) ∗ oPiece d f (chunkNo c s 3))) :=
  bigSep_univ_eq_bigSepL [(0 : Fin 4), (1 : Fin 4), (2 : Fin 4), (3 : Fin 4)] (by decide) (by decide) _

omit [FloatOps F] in
/-- A chunk of the result after the copy out of a buffer into which the same chunk of the argument was copied: it
    holds the argument's contents. -/
theorem landed {R : Rect S8192x768} {r : Fin 4} (h : R = chunk (chunkNo (cL L) (jL L) r)) (hR : ∀ a, R.stride a = 1)
    (b : Memref sig .scVector .vmem R.shape .f32) (f : Buf (Elt F) (oLoc d)) (g : b.view.ty.Contents (Elt F)) :
    (((oM).slice R hR).view.loc (V d (cV L) (jV L)) ↦[((oM).slice R hR).view.set]{fullShare}
        ((oM).slice R hR).view.writes (Elt F) f [⟨Rect.whole R.shape, ReadAs.same.apply (View.read (Elt F) b.view
          (View.write (Elt F) b.view g (ReadAs.same.apply (View.read (Elt F) ((aM).slice R hR).view (m (aLoc d)))) Finset.univ))⟩] : sProp 𝕄)
      = oPiece d (copied m d) (chunkNo (cL L) (jL L) r) := by
  rw [← pts_o (F := F) d L h hR]
  refine pointsTo_congr fun i hi => ?_
  obtain ⟨y, -, rfl⟩ := Finset.mem_map.mp hi
  refine (congrFun (View.read_writes_whole ((oM).slice R hR).view f _) y).trans ?_
  exact congrFun (View.read_write_univ _ _) y

/-- The task on tile `(L 0, L 1)` of device `d`: its eight copies and their waits, from its chunks of both arrays to
    the same chunks with the result's at the argument's contents. -/
theorem tile_body (hF : (K (F := F)).Facts) (O : CellTallies nD τ sig (HIx 1)) (W : Waits sig (HIx 1)) (hO : ∀ g, O g none = 0) :
    iprop(levAts (K (F := F)).L (K (F := F)).lev ∗ emp ∗ tilePieces m d (m (oLoc d)) (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy_body L aM (Memref.isWhole_whole _) oM (Memref.isWhole_whole _) b0M (Memref.isWhole_whole _) b1M (Memref.isWhole_whole _)
            cc0_scratch2 cc0_scratch3 cc0_scratch4)
          fun _ => iprop(tilePieces m d (copied m d) (cL L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    tilePieces_eq, tilePieces_eq]
  have e0 : rectK0 L = _ := rect_chunk L 0
  have e1 : rectK1 L = _ := rect_chunk L 1
  have e2 : rectK2 L = _ := rect_chunk L 2
  have e3 : rectK3 L = _ := rect_chunk L 3
  iintro ⟨#Hlv, -, ⟨⟨Ha0, Ho0⟩, ⟨Ha1, Ho1⟩, ⟨Ha2, Ho2⟩, ⟨Ha3, Ho3⟩⟩, ⟨⟨%f0, Hb0⟩, ⟨%f1, Hb1⟩, Hbufs⟩, ⟨Hg, Hs0, Hs1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha0 := (Entails.of_eq (pts_a m d L e0 (fun _ => rfl)).symm) $$ Ha0
  ihave Ha1 := (Entails.of_eq (pts_a m d L e1 (fun _ => rfl)).symm) $$ Ha1
  ihave Ha2 := (Entails.of_eq (pts_a m d L e2 (fun _ => rfl)).symm) $$ Ha2
  ihave Ha3 := (Entails.of_eq (pts_a m d L e3 (fun _ => rfl)).symm) $$ Ha3
  ihave Ho0 := (Entails.of_eq (pts_o (F := F) d L e0 (fun _ => rfl) _).symm) $$ Ho0
  ihave Ho1 := (Entails.of_eq (pts_o (F := F) d L e1 (fun _ => rfl) _).symm) $$ Ho1
  ihave Ho2 := (Entails.of_eq (pts_o (F := F) d L e2 (fun _ => rfl) _).symm) $$ Ho2
  ihave Ho3 := (Entails.of_eq (pts_o (F := F) d L e3 (fun _ => rfl) _).symm) $$ Ho3
  ihave Hb0 := (Entails.of_eq (pts_b0 (F := F) d L _).symm) $$ Hb0
  ihave Hb1 := (Entails.of_eq (pts_b1 (F := F) d L _).symm) $$ Hb1
  rw [cc0__sc_copy_body_eq_skeleton]
  sl_unfold [cc0__sc_copy_body_skel, k0_part1_skel, k0_part1_eq_skeleton]
  sl_exec (disch := exact View.amount_pos _ _ (show 0 < S64x768.numel by decide))
  sl_step
  unfold tile_body.sl.dma0_1 tile_body.sl.dma0_3 tile_body.sl.dma0_5 tile_body.sl.dma0_7
  unfold tile_body.sl.dma0 tile_body.sl.dma0_2 tile_body.sl.dma0_4 tile_body.sl.dma0_6
  isplitl [Ha0 Ha1 Ha2 Ha3 Ho0 Ho1 Ho2 Ho3]
  · isplitl [Ha0 Ho0]
    · isplitl [Ha0]; · iapply (Entails.of_eq (pts_a m d L e0 (fun _ => rfl))); iexact Ha0
      iapply (Entails.of_eq (landed m d L e0 (fun _ => rfl) b0M _ _)); iexact Ho0
    isplitl [Ha1 Ho1]
    · isplitl [Ha1]; · iapply (Entails.of_eq (pts_a m d L e1 (fun _ => rfl))); iexact Ha1
      iapply (Entails.of_eq (landed m d L e1 (fun _ => rfl) b1M _ _)); iexact Ho1
    isplitl [Ha2 Ho2]
    · isplitl [Ha2]; · iapply (Entails.of_eq (pts_a m d L e2 (fun _ => rfl))); iexact Ha2
      iapply (Entails.of_eq (landed m d L e2 (fun _ => rfl) b0M _ _)); iexact Ho2
    isplitl [Ha3]; · iapply (Entails.of_eq (pts_a m d L e3 (fun _ => rfl))); iexact Ha3
    iapply (Entails.of_eq (landed m d L e3 (fun _ => rfl) b1M _ _)); iexact Ho3
  isplitl [Hb0 Hb1 Hbufs]
  · isplitl [Hb0]; · iexists _; iexact Hb0
    isplitl [Hb1]; · iexists _; iexact Hb1
    iexact Hbufs
  isplitl [Hg Hs0 Hs1 Hsems]
  · isplitl [Hg]; · iexact Hg
    isplitl [Hs0]; · iexact Hs0
    isplitl [Hs1]; · iexact Hs1
    iexact Hsems
  iexists _; isplitr
  swap; · iexact HO
  ipureintro; intro p _
  rcases p.2 with _ | q
  · exact .inr (.inl rfl)
  · exact .inr (.inr (congrArg some (Subsingleton.elim q 0)))

/-! ## The obligation -/

/-- The coordinates `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the body at its coordinates. -/
theorem defs₀_vector (c : Fin τ.nSC) (s : Fin τ.nSub) :
    defs₀ (F := F) (.scVector c s) 0 ()
      = SparseCore.onTile hcore0 hsub0 (fun c s => cc0__sc_copy_body (coordsV c s)
          aM (Memref.isWhole_whole _) oM (Memref.isWhole_whole _) b0M (Memref.isWhole_whole _) b1M (Memref.isWhole_whole _)
          cc0_scratch2 cc0_scratch3 cc0_scratch4) ⟨⟩ c s := rfl

/-- Every tile meets its part of the call. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

end Cert.Proof.Copy

end
-- ==== Proof.Zeros.lean ====
/-
  The TensorCore half of the program: the pallas_call that fills the seven other results with zeros, sixteen blocks
  of 512 rows each. Its body stores a block of zeros through each window, so that every result ends at zero
  everywhere.
-/
module

public import proofs.«01_k».proof.Proof.Tiles
public import Idealize.ShloMosaic.Lib.VecWindow
public import Idealize.ShloMosaic.Lib.Pipeline.ValueKit

@[expose] public section

noncomputable section

namespace Cert.Proof.Zeros

open Cert.KernelIdeal Cert.KernelIdeal.Gen Cert.Proof.Copy

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The number the body stores. -/
def zero : F .f32 := Scalar.ofBits .f32 0x00000000#32

/-- A block of it, and a whole result of it. -/
abbrev zBlock : FVec F S512x768 .f32 := fun _ => zero
abbrev zArray : FVec F S8192x768 .f32 := fun _ => zero

/-! ## The body -/

/-- From the seven staging buffers at any contents, the body runs to its return with each reading zeros. -/
theorem body_run (c : Dev nD) (i : grid1.Coords) (M1 M2 M3 M4 M5 M6 M7 : Memref sig .tc .vmem S512x768 .f32)
    (h1 : M1.IsWhole) (h2 : M2.IsWhole) (h3 : M3.IsWhole) (h4 : M4.IsWhole) (h5 : M5.IsWhole) (h6 : M6.IsWhole) (h7 : M7.IsWhole)
    (X1 X2 X3 X4 X5 X6 X7 : S512x768.Idx → Elt F .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare (zBlock (F := F)) ∗ owns (c : Thread nD τ) M2 fullShare (zBlock (F := F))
            ∗ owns (c : Thread nD τ) M3 fullShare (zBlock (F := F)) ∗ owns (c : Thread nD τ) M4 fullShare (zBlock (F := F))
            ∗ owns (c : Thread nD τ) M5 fullShare (zBlock (F := F)) ∗ owns (c : Thread nD τ) M6 fullShare (zBlock (F := F))
            ∗ owns (c : Thread nD τ) M7 fullShare (zBlock (F := F))) -∗ Q ⟨⟩))
      ⊢ wp frame (wpE (defs₀ (F := F)) 𝒱₀ (c : Thread nD τ) none) E (cc1__tc_zero_body i M1 h1 M2 h2 M3 h3 M4 h4 M5 h5 M6 h6 M7 h7) Q := by
  unfold owns
  iintro ⟨⟨%f1, -, H1⟩, ⟨%f2, -, H2⟩, ⟨%f3, -, H3⟩, ⟨%f4, -, H4⟩, ⟨%f5, -, H5⟩, ⟨%f6, -, H6⟩, ⟨%f7, -, H7⟩, Hk⟩
  rw [cc1__tc_zero_body_eq_skeleton]
  sl_unfold [cc1__tc_zero_body_skel]
  sl_exec
  sl_step
  iapply Hk
  isplitl [H1]; · iexists _; isplitr; swap; (· iexact H1); ipureintro; exact View.read_writes_full M1.view f1 _ (k1_pay1 (F := F)) []
  isplitl [H2]; · iexists _; isplitr; swap; (· iexact H2); ipureintro; exact View.read_writes_full M2.view f2 _ (k1_pay2 (F := F)) []
  isplitl [H3]; · iexists _; isplitr; swap; (· iexact H3); ipureintro; exact View.read_writes_full M3.view f3 _ (k1_pay3 (F := F)) []
  isplitl [H4]; · iexists _; isplitr; swap; (· iexact H4); ipureintro; exact View.read_writes_full M4.view f4 _ (k1_pay4 (F := F)) []
  isplitl [H5]; · iexists _; isplitr; swap; (· iexact H5); ipureintro; exact View.read_writes_full M5.view f5 _ (k1_pay5 (F := F)) []
  isplitl [H6]; · iexists _; isplitr; swap; (· iexact H6); ipureintro; exact View.read_writes_full M6.view f6 _ (k1_pay6 (F := F)) []
  iexists _; isplitr; swap; (· iexact H7); ipureintro; exact View.read_writes_full M7.view f7 _ (k1_pay7 (F := F)) []

/-! ## The proof data, from what the arrays hold when the call starts -/

/-- The wait/level pairs the core may have recorded when the call starts: those of the SparseCore call before it. -/
def recordedBefore (c : Dev nD) : Set (SemLoc sig × HIx 1) := {p | (K (F := F)).lev (SparseCore.T c, p.1) p.2 ≤ 8 * (SparseCore.Cfg.Blocks.one 1).fst 1}

variable (V V' : (c : Dev nD) → (b : Ref sig .tc) → Buf (Elt F) ((c : Thread nD τ).loc b))

/-- The proof data: the seven arrays at what they hold; after the body a window's buffer at zeros; nothing owed. -/
def dat (c : Dev nD) : Dat τ (Elt F) (HIx 1) ℕ UU ℕ cfg1 c where
  A w := V c (Pipeline.arrRef spec1 w)
  after w _ := match w with
    | ⟨0, _⟩ => zBlock | ⟨1, _⟩ => zBlock | ⟨2, _⟩ => zBlock | ⟨3, _⟩ => zBlock
    | ⟨4, _⟩ => zBlock | ⟨5, _⟩ => zBlock | ⟨6, _⟩ => zBlock
  Φ _ := Pipeline.scopedRest (Ix := HIx 1) (Name := ℕ) (U := UU) (Lvl := ℕ) (Val := Elt F) spec1 c
  q _ := fullShare
  owed _ := 0
  recorded _ := recordedBefore (F := F) c

/-- The proof data of every pallas_call: there is the one. -/
def pdats : (p : Fin 1) → (c : Dev nD) → Dat τ (Elt F) (HIx 1) ℕ UU ℕ (Pipeline.pin (pcfgs (F := F)) (fun q => (cfgs q).toPCfg_adm) p) c
  | ⟨0, _⟩ => fun c => dat V c

/-- The body's obligation at every point of the grid. -/
theorem body_obligation (c : Dev nD) : BodyObligation (dat V c) (defs₀ (F := F)) 𝒱₀ none Set.univ := fun t => by
  rw [bigSep_W1, bigSep_W1, show (dat V c).Φ t.castSucc = (dat V c).Φ t.succ from rfl, show (dat V c).owesAt none t.castSucc = (dat V c).owesAt none t.succ from rfl]
  show _ ⊢ wp frame (wpE (defs₀ (F := F)) 𝒱₀ (c : Thread nD τ) none) Set.univ (bodyAt1 t) _
  iintro ⟨HΦ, HO, ⟨%d1, H1⟩, ⟨%d2, H2⟩, ⟨%d3, H3⟩, ⟨%d4, H4⟩, ⟨%d5, H5⟩, ⟨%d6, H6⟩, ⟨%d7, H7⟩⟩
  iapply body_run c
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [HΦ]; · iexact HΦ
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

/-! ## What the seven arrays hold when the call is over -/

/-- After the last grid point the fill's array 0 is zero everywhere. -/
theorem final0 (c : Dev nD) : (dat V c).arrAt 0 cfg1.N = (zArray : FVec F S8192x768 .f32) :=
  (dat V c).arrAt_eq_of_covers 0 (zArray (F := F)) (by decide +kernel) fun _ _ _ => rfl
/-- After the last grid point the fill's array 1 is zero everywhere. -/
theorem final1 (c : Dev nD) : (dat V c).arrAt 1 cfg1.N = (zArray : FVec F S8192x768 .f32) :=
  (dat V c).arrAt_eq_of_covers 1 (zArray (F := F)) (by decide +kernel) fun _ _ _ => rfl
/-- After the last grid point the fill's array 2 is zero everywhere. -/
theorem final2 (c : Dev nD) : (dat V c).arrAt 2 cfg1.N = (zArray : FVec F S8192x768 .f32) :=
  (dat V c).arrAt_eq_of_covers 2 (zArray (F := F)) (by decide +kernel) fun _ _ _ => rfl
/-- After the last grid point the fill's array 3 is zero everywhere. -/
theorem final3 (c : Dev nD) : (dat V c).arrAt 3 cfg1.N = (zArray : FVec F S8192x768 .f32) :=
  (dat V c).arrAt_eq_of_covers 3 (zArray (F := F)) (by decide +kernel) fun _ _ _ => rfl
/-- After the last grid point the fill's array 4 is zero everywhere. -/
theorem final4 (c : Dev nD) : (dat V c).arrAt 4 cfg1.N = (zArray : FVec F S8192x768 .f32) :=
  (dat V c).arrAt_eq_of_covers 4 (zArray (F := F)) (by decide +kernel) fun _ _ _ => rfl
/-- After the last grid point the fill's array 5 is zero everywhere. -/
theorem final5 (c : Dev nD) : (dat V c).arrAt 5 cfg1.N = (zArray : FVec F S8192x768 .f32) :=
  (dat V c).arrAt_eq_of_covers 5 (zArray (F := F)) (by decide +kernel) fun _ _ _ => rfl
/-- After the last grid point the fill's array 6 is zero everywhere. -/
theorem final6 (c : Dev nD) : (dat V c).arrAt 6 cfg1.N = (zArray : FVec F S8192x768 .f32) :=
  (dat V c).arrAt_eq_of_covers 6 (zArray (F := F)) (by decide +kernel) fun _ _ _ => rfl

/-! ## The call as a region of the TensorCore's program -/

-- a lemma stated over a family of configurations is applied at a member of it: unification may unfold plain definitions there
set_option backward.isDefEq.respectTransparency.types false in
/-- The call, entered with the core's arrays at `V` and left with them at `V'`, which has the seven results as the
    write-backs leave them and every other array as `V` has it. -/
def region (hout : ∀ c w, V' c (Pipeline.arrRef spec1 w) = (dat V c).arrAt w cfg1.N)
    (hne : ∀ c (b : Ref sig .tc), b ∉ Finset.univ.image (Pipeline.arrRef spec1) → V' c b = V c b) :
    Pipeline.RegionSeg (pcfgs (F := F)) (fun q => (cfgs q).toPCfg_adm) (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ (dat V c).owesAt none 0)
  post c := iprop(unscopedBufs c (V' c) ∗ (dat V c).owesAt none 0)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) (fun q => (cfgs q).toPCfg_adm) (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) (fun q => (cfgs q).toPCfg_adm) (Ix := HIx 1) (Name := ℕ) (U := UU) (Lvl := ℕ) launch1.win launch1.arr_whole c
      (pdats V) ((pdats V 0 c).share_full fun _ => rfl) (V c) (V' c) ((pdats V 0 c).arrAt · cfg1.N) (fun w => (hout c w).symm) (hne c)
    iintro ⟨Ha, HO, -, Hrest⟩
    imodintro
    isplitl [Ha Hrest]
    · iapply hjoin; isplitl [Ha] <;> iassumption
    iexact HO

end Cert.Proof.Zeros

end
-- ==== Proof.Run.lean ====
/-
  The whole program on a device: the SparseCore call that copies the argument into the first result, then the
  TensorCore call that fills the seven others with zeros. Every run ends, with the first result at the argument's
  contents, the others at zeros, the argument as it was, and every semaphore counter at zero. The numbers are of any
  kind, so the two programs' claims and the comparison with the reference all read off this one run.
-/
module

public import proofs.«01_k».proof.Proof.Zeros

@[expose] public section

noncomputable section

namespace Cert.Proof.Run

open Cert.KernelIdeal Cert.KernelIdeal.Gen Cert.Proof.Copy Cert.Proof.Zeros

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What a device's arrays hold between the two calls, and at the end -/

/-- After the SparseCore call: the first result at the argument's contents, the rest as launched. -/
def mid (c : Dev nD) : (b : Ref sig .tc) → Buf (Elt F) ((c : Thread nD τ).loc b) :=
  Function.update (fun b => m ((c : Thread nD τ).loc b)) main_v0 (copied m c)

/-- After both: the seven others at zeros besides. -/
def done (c : Dev nD) : (b : Ref sig .tc) → Buf (Elt F) ((c : Thread nD τ).loc b) :=
  Function.update (Function.update (Function.update (Function.update (Function.update (Function.update (Function.update (mid m c)
    main_v1_0 (zArray (F := F))) main_v1_1 (zArray (F := F))) main_v1_2 (zArray (F := F))) main_v1_3 (zArray (F := F)))
    main_v1_4 (zArray (F := F))) main_v1_5 (zArray (F := F))) main_v1_6 (zArray (F := F))

/-- After the copy result 1 holds the argument. -/
theorem mid_v0 (c : Dev nD) : mid m c main_v0 = copied m c := Function.update_self ..
/-- The copy changes no other array. -/
theorem mid_ne (c : Dev nD) (b : Ref sig .tc) (h : b ≠ main_v0) : mid m c b = m ((c : Thread nD τ).loc b) := Function.update_of_ne h ..

/-- An array that is none of the seven is as after the first call. -/
theorem done_ne (c : Dev nD) (b : Ref sig .tc) (h : b ∉ Finset.univ.image (Pipeline.arrRef spec1)) : done m c b = mid m c b := by
  have h' : ∀ w, b ≠ Pipeline.arrRef spec1 w := fun w e => h (e ▸ Finset.mem_image_of_mem _ (Finset.mem_univ w))
  unfold done
  rw [Function.update_of_ne (h' 6), Function.update_of_ne (h' 5), Function.update_of_ne (h' 4), Function.update_of_ne (h' 3),
    Function.update_of_ne (h' 2), Function.update_of_ne (h' 1), Function.update_of_ne (h' 0)]

/-- At the end result 1 holds the argument. -/
theorem done_v0 (c : Dev nD) : done m c main_v0 = copied m c := (done_ne m c _ (by decide)).trans (mid_v0 m c)
/-- At the end the argument holds what it held. -/
theorem done_arg0 (c : Dev nD) : done m c main_arg0 = m ((c : Thread nD τ).loc main_arg0) :=
  (done_ne m c _ (by decide)).trans (mid_ne m c _ (by decide))

/-- At the end result 8 is zero everywhere. -/
theorem done_v1_6 (c : Dev nD) : done m c main_v1_6 = zArray (F := F) := Function.update_self ..
/-- At the end result 7 is zero everywhere. -/
theorem done_v1_5 (c : Dev nD) : done m c main_v1_5 = zArray (F := F) := by
  unfold done; rw [Function.update_of_ne (by decide)]; exact Function.update_self ..
/-- At the end result 6 is zero everywhere. -/
theorem done_v1_4 (c : Dev nD) : done m c main_v1_4 = zArray (F := F) := by
  unfold done; rw [Function.update_of_ne (by decide), Function.update_of_ne (by decide)]; exact Function.update_self ..
/-- At the end result 5 is zero everywhere. -/
theorem done_v1_3 (c : Dev nD) : done m c main_v1_3 = zArray (F := F) := by
  unfold done; rw [Function.update_of_ne (by decide), Function.update_of_ne (by decide), Function.update_of_ne (by decide)]; exact Function.update_self ..
/-- At the end result 4 is zero everywhere. -/
theorem done_v1_2 (c : Dev nD) : done m c main_v1_2 = zArray (F := F) := by
  unfold done
  rw [Function.update_of_ne (by decide), Function.update_of_ne (by decide), Function.update_of_ne (by decide), Function.update_of_ne (by decide)]
  exact Function.update_self ..
/-- At the end result 3 is zero everywhere. -/
theorem done_v1_1 (c : Dev nD) : done m c main_v1_1 = zArray (F := F) := by
  unfold done
  rw [Function.update_of_ne (by decide), Function.update_of_ne (by decide), Function.update_of_ne (by decide), Function.update_of_ne (by decide),
    Function.update_of_ne (by decide)]
  exact Function.update_self ..
/-- At the end result 2 is zero everywhere. -/
theorem done_v1_0 (c : Dev nD) : done m c main_v1_0 = zArray (F := F) := by
  unfold done
  rw [Function.update_of_ne (by decide), Function.update_of_ne (by decide), Function.update_of_ne (by decide), Function.update_of_ne (by decide),
    Function.update_of_ne (by decide), Function.update_of_ne (by decide)]
  exact Function.update_self ..

/-- The seven arrays hold what the call's write-backs leave. -/
theorem done_out (c : Dev nD) : ∀ w, done m c (Pipeline.arrRef spec1 w) = (dat (mid m) c).arrAt w cfg1.N
  | ⟨0, _⟩ => (done_v1_0 m c).trans (final0 (mid m) c).symm
  | ⟨1, _⟩ => (done_v1_1 m c).trans (final1 (mid m) c).symm
  | ⟨2, _⟩ => (done_v1_2 m c).trans (final2 (mid m) c).symm
  | ⟨3, _⟩ => (done_v1_3 m c).trans (final3 (mid m) c).symm
  | ⟨4, _⟩ => (done_v1_4 m c).trans (final4 (mid m) c).symm
  | ⟨5, _⟩ => (done_v1_5 m c).trans (final5 (mid m) c).symm
  | ⟨6, _⟩ => (done_v1_6 m c).trans (final6 (mid m) c).symm

/-- The TensorCore call over these. -/
abbrev zeros := region (F := F) (mid m) (done m) (done_out m) (done_ne m)

/-- What the zero fill starts from: the device's arrays after the copy, and its debts. -/
theorem zeros_pre (d : Dev nD) : (zeros m).pre d = iprop(unscopedBufs d (mid m d) ∗ (dat (mid m) d).owesAt none 0) := rfl
/-- What the zero fill ends with: the arrays at their final contents, and its debts. -/
theorem zeros_post (d : Dev nD) : (zeros m).post d = iprop(unscopedBufs d (done m d) ∗ (dat (mid m) d).owesAt none 0) := rfl

/-! ## The device's arrays: the two the SparseCore call works on, and the rest -/

/-- The arrays held together are the argument, result 1 and the rest. -/
theorem unscoped_two (d : Dev nD) (V : (b : Ref sig .tc) → Buf (Elt F) ((d : Thread nD τ).loc b)) :
    (unscopedBufs d V : sProp 𝕄) = iprop((aLoc d ↦{fullShare} V main_arg0) ∗ (oLoc d ↦{fullShare} V main_v0)
      ∗ bigSep (Finset.univ.image (Pipeline.arrRef spec1)) fun b => ((d : Thread nD τ).loc b) ↦{fullShare} V b) := by
  unfold unscopedBufs
  rw [show (Finset.univ.filter fun b : Ref sig .tc => ¬ b.isScoped) = insert main_arg0 (insert main_v0 (Finset.univ.image (Pipeline.arrRef spec1))) by decide,
    SparseCore.bigSep_insert' (by decide), SparseCore.bigSep_insert' (by decide)]

/-- The rest holds between the calls what it held at launch. -/
theorem rest_mid (d : Dev nD) :
    (bigSep (Finset.univ.image (Pipeline.arrRef spec1)) fun b => ((d : Thread nD τ).loc b) ↦{fullShare} m ((d : Thread nD τ).loc b) : sProp 𝕄)
      = bigSep (Finset.univ.image (Pipeline.arrRef spec1)) fun b => ((d : Thread nD τ).loc b) ↦{fullShare} mid m d b :=
  bigSep_congr fun b hb => by rw [mid_ne m d b fun e => absurd (e ▸ hb) (by decide)]

/-! ## The launch element: the handshakes' rounds and the pipeline's -/

/-- The pipeline's rounds' place in the resources. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-- The program's pipelines, each at its only admissible table. -/
abbrev pins : (p : Fin 1) → Pipeline.Cfg sig Λ₀ := Pipeline.pin (pcfgs (F := F)) fun q => (cfgs q).toPCfg_adm

/-- Different staging cells have different names. -/
theorem pins_inj : Function.Injective (Pipeline.cellOf (nD := nD) (τ := τ) (pins (F := F))) := cellOf_inj

/-- The launch's ghost element: the handshakes' cells and tokens beside the pipeline's. -/
def u₀ : UU := (initOf (K (F := F)).hsCells (K (F := F)).hsToks,
  (initOf (Pipeline.cells (pins (F := F)) pins_inj) (Pipeline.launchToks (pins (F := F)) pins_inj), 1))

/-- What a device's TensorCore takes of it for the pipeline. -/
abbrev G (d : Dev nD) : sProp 𝕄 := iprop(Pipeline.cellsGhost (pins (F := F)) EP 0 d ∗ Pipeline.toksInit (pins (F := F)) EP 0 d)

/-- The pipeline's part of the launch element gives its cells. -/
theorem pipeline_element :
    (BI.own ((embR : Emb (UP × Counters) 𝕄)
        (initOf (Pipeline.cells (pins (F := F)) pins_inj) (Pipeline.launchToks (pins (F := F)) pins_inj), (1 : Counters))) : sProp 𝕄)
      ⊢ iprop(BI.own (EP (F := F) (initOf (Pipeline.cells (pins (F := F)) pins_inj) (Pipeline.launchToks (pins (F := F)) pins_inj)))
        ∗ BI.own (((Emb.inr : Emb Counters (UP × Counters)).trans (embR : Emb (UP × Counters) 𝕄)) 1)) :=
  own_pair_emb _ _ _

/-- The launch element gives the handshakes and the pipeline what each starts from. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HR⟩
  ihave HR' := pipeline_element $$ HR
  icases HR' with ⟨HP, -⟩
  imod (Pipeline.fund_ghost (pins (F := F)) (EP (F := F)) pins_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (M := 𝕄) (Finset.univ : Finset (Thread nD τ))).symm)
  iempintro

/-! ## @main on the TensorCore -/

/-- What the TensorCore has at the end besides the handshakes': its arrays at their final contents. -/
abbrev FIN (d : Dev nD) : sProp 𝕄 := unscopedBufs d (done m d)

/-- The pairs the core has recorded by the TensorCore call's end are still below the SparseCore call's end. -/
theorem below_end (d : Dev nD) (W : Set (SemLoc sig × HIx 1)) (hW : W ⊆ recordedBefore (F := F) d ∪ cfg1.waitPairs none) :
    ∀ p ∈ W, (K (F := F)).lev (SparseCore.T d, p.1) p.2 ≤ 8 * (SparseCore.Cfg.Blocks.one 1).fst 1 := fun p hp => by
  rcases hW hp with h | ⟨w, s, rfl⟩
  · exact h
  · rw [SparseCore.Cfg.lev_none]; exact Nat.zero_le _

/-- What the SparseCore call hands back is the argument as it was and the first result at its contents. -/
theorem copied_pieces (d : Dev nD) :
    (bigSep Finset.univ fun c : Fin ((K (F := F)).nCore 0) => (P m).dn 0 d c)
      = iprop((aLoc d ↦{fullShare} m (aLoc d)) ∗ (oLoc d ↦{fullShare} copied m d)) := arrays_pieces m d (copied m d)

/-- @main on device `d`'s TensorCore: the SparseCore call from the argument and the first result, then the
    TensorCore call from the rest. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_two]
  simp only [main, wp_bind, wp_pure]
  iintro ⟨#Hctx, Hst, ⟨Hb, ⟨Ha, Ho, Hrest⟩, Hts, -⟩, Hg, Ht⟩
  ihave #Hlev := (SparseCore.Cfg.ctx_levAts κ) $$ Hctx
  iapply ((K (F := F)).wp_run (D (F := F)) 𝒱 (EH := EH) (P := P m) κ d 0)
  isplitr; · iexact Hctx
  isplitl [Hst]; · iexact Hst
  isplitl [Ha Ho]
  · iapply (Entails.of_eq (arrays_pieces m d (m (oLoc d))).symm)
    isplitl [Ha] <;> iassumption
  iintro ⟨Hst, Hdn⟩
  ihave Hdn' := (Entails.of_eq (copied_pieces m d)) $$ Hdn
  icases Hdn' with ⟨Ha, Ho⟩
  unfold SparseCore.Cfg.tcSt
  icases Hst with ⟨⟨%W, %hW, HO⟩, Hst⟩
  ihave Hrest' := (Entails.of_eq (rest_mid m d)) $$ Hrest
  ihave HO' := (Entails.of_eq (congrArg (fun O => (owes (SparseCore.T d) O W : sProp 𝕄)) ((K (F := F)).Otc_end d (n := (0 : Fin 1).val + 1) le_rfl))) $$ HO
  iapply ((K (F := F)).wp_liftProg (D (F := F)) 𝒱 (SparseCore.T d) Set.univ none (.op (.customCall (Pipeline.entry 0) ()) pure))
  iapply (Pipeline.RegionSeg.wp (pcfgs (F := F)) (fun q => (cfgs q).toPCfg_adm) (pdats (mid m)) none pins_inj (EP (F := F)) defs₀ 𝒱₀ (K (F := F)).L (K (F := F)).lev
    (zeros m) d none (fun u h => nomatch h) pure)
  isplitl [Hst Hts]
  · iintro ⟨Hb, Hpost⟩
    rw [wp_pure]
    ihave Hpost' := (Entails.of_eq (zeros_post m d)) $$ Hpost
    icases Hpost' with ⟨Hub, HO⟩
    unfold Pipeline.Dat.owesAt Pipeline.owesWithin
    icases HO with ⟨%W', %hW', HO⟩
    imodintro; imodintro
    isplitl [HO Hst]
    · isplitl [HO]
      · iexists W'
        isplitr; · ipureintro; exact below_end d W' hW'
        iapply (Entails.of_eq (congrArg (fun O => (owes (SparseCore.T d) O W' : sProp 𝕄)) ((K (F := F)).Otc_end d (n := 1) le_rfl)).symm)
        iexact HO
      iexact Hst
    isplitl [Hub]; · iexact Hub
    isplitl [Hb] <;> iassumption
  isplitl [Hb]; · iexact Hb
  isplitl [Ha Ho Hrest' HO']
  · iapply (Entails.of_eq (zeros_pre m d).symm)
    isplitr [HO']
    · iapply (Entails.of_eq (unscoped_two d (mid m d)).symm)
      rw [mid_v0, mid_ne m d _ (by decide)]
      isplitl [Ha]; · iexact Ha
      isplitl [Ho] <;> iassumption
    · unfold Pipeline.Dat.owesAt Pipeline.owesWithin
      iexists W
      isplitr; · ipureintro; exact fun p hp => Or.inl (hW p hp)
      iexact HO'
  isplitr; · iexact Hlev
  isplitl [Hg]; · iexact Hg
  iexact Ht

/-! ## The final memory -/

/-- What is read of the final memory: every array of the device at its final contents. -/
def fq (d : Dev nD) (s' : Phys nD τ sig (Elt F)) : Prop :=
  ∀ b : Ref sig .tc, b.isScoped = false → s'.mem.mem ((d : Thread nD τ).loc b) = done m d b

/-- What the last thread holds pins the arrays' contents in the final state. -/
theorem hfin (d : Dev nD) (s' : Phys nD τ sig (Elt F)) : iprop(FIN m d ∗ SI s') ⊢ (⌜fq m d s'⌝ : sProp 𝕄) := by
  refine (forall_intro fun b => ?_).trans pure_forall.2
  by_cases hb : b.isScoped = false
  · have hmem : b ∈ Finset.univ.filter fun b : Ref sig .tc => ¬ b.isScoped := Finset.mem_filter.mpr ⟨Finset.mem_univ _, by rw [hb]; exact Bool.false_ne_true⟩
    refine (sep_mono_left (bigSep_elim (Φ := fun b : Ref sig .tc => ((d : Thread nD τ).loc b ↦{fullShare} done m d b : sProp 𝕄)) hmem)).trans ?_
    iintro ⟨Hp, HSI⟩
    ihave H := (SI_pointsTo_agree (st := s') (ℓ := (d : Thread nD τ).loc b) (I := Finset.univ) (q := fullShare) (f := done m d b)) $$ [HSI Hp]
    · isplitl [HSI] <;> iassumption
    icases H with %h
    ipureintro; exact fun _ => funext fun i => h i (Finset.mem_univ i)
  · exact BI.pure_intro fun h => absurd h hb

/-! ## The program's run -/

/-- Every device's arrays at their final contents, and every counter at zero. -/
def QC : PUnit × MemSt nD τ sig (Elt F) → Prop := fun r =>
  (∀ (c : Dev nD) (b : Ref sig .tc), b.isScoped = false → r.2.mem ((c : Thread nD τ).loc b) = done m c b) ∧ r.2.sem = fun _ => 0

/-- From any memory with every counter at zero, every run of the kernel ends with the arrays at their final contents and every
    counter at zero, whatever the float values are. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.RefOps.lean ====
/-
  THE REFERENCE'S OPERATIONS, each read where it does nothing: a stable sort no two of whose entries are ordered, the
  argsort of a constant, a top-1 whose first entry is greatest, and a gather by the positions in order.
-/
module

public import proofs.«01_k».proof.Proof.Gen.ReferenceIdeal
public import proofs.«01_k».proof.Proof.Gen.ReferenceIdeal.Run
public import Idealize.ShloMosaic.Lib.Routing.OpsSet
public import Idealize.ShloMosaic.Lib.Routing.OpsPair
public import Idealize.ShloMosaic.Lib.ScatterToDense.RefScatter
public import Idealize.ShloMosaic.Lib.Pointwise

@[expose] public section

noncomputable section

namespace Cert.Proof.Ref

open Cert.ReferenceIdeal Cert.ReferenceIdeal.Gen
open Idealize.ShloMosaic hiding ix0 ix1 ix2 ix3
open Idealize.ShloMosaic.Routing Idealize.ShloMosaic.ValueIdx

variable {F : FTy → Type} [FloatOps F]

/-! ## The stable sort -/

/-- An element that no other sorts before goes to the front of the list. -/
theorem insert_first {ι : Type} {before : ι → ι → Bool} {a : ι} (h : ∀ b, before b a = false) (l : List ι) :
    insertBefore before a l = a :: l := by
  cases l with
  | nil => rfl
  | cons b l => exact if_neg (by rw [h b]; exact Bool.false_ne_true)

/-- With no two elements ordered the stable sort leaves a list as it is. -/
theorem sort_unordered {ι : Type} {before : ι → ι → Bool} (h : ∀ a b, before a b = false) : ∀ l : List ι, stableSort before l = l
  | [] => rfl
  | a :: l => by
    show insertBefore before a (stableSort before l) = a :: l
    rw [sort_unordered h l, insert_first fun b => h b a]

/-- With no two positions ordered every position keeps its element. -/
theorem sorted_unordered {n : Nat} {before : Fin n → Fin n → Bool} (h : ∀ a b, before a b = false) (k : Fin n) :
    sortedFrom before k = k := by
  have e : sortPositions n before = List.finRange n := sort_unordered h _
  simp only [sortedFrom, e, List.get_eq_getElem, List.getElem_finRange]
  exact Fin.ext rfl

/-- Where no position sorts before position 0, position 0 keeps its element. -/
theorem sorted_zero {n : Nat} {before : Fin (n + 1) → Fin (n + 1) → Bool} (h : ∀ k, before k 0 = false) :
    sortedFrom before 0 = 0 := by
  have e : sortPositions (n + 1) before = 0 :: stableSort before ((List.finRange n).map Fin.succ) := by
    show stableSort before (List.finRange (n + 1)) = _
    rw [List.finRange_succ]
    exact insert_first h _
  show (sortPositions (n + 1) before).get _ = 0
  rw [List.get_of_eq e]
  rfl

/-- The argsort of a constant mask lists the rows in order. -/
theorem argsort_const (key : IVec S8192 1) (h : ∀ i j, key i = key j) :
    (Host.sort2 S8192 0 comparator_i1_i32_d0 key (iotaInDim S8192 32 0)).2 = iotaInDim S8192 32 0 := by
  funext j
  have hb : ∀ k k' : Fin 8192, (comparator_i1_i32_d0 (key (j.along 0 k), iotaInDim S8192 32 0 (j.along 0 k))
      (key (j.along 0 k'), iotaInDim S8192 32 0 (j.along 0 k')) == 1#1) = false := fun k k' => by
    show (IntOp.cmpi .ult (key (j.along 0 k)) (key (j.along 0 k')) == 1#1) = false
    rw [h (j.along 0 k) (j.along 0 k')]
    generalize key (j.along 0 k') = x
    revert x
    decide
  show iotaInDim S8192 32 0 (j.along 0 (sortedFrom _ (j 0))) = _
  exact congrArg (iotaInDim S8192 32 0) ((congrArg (j.along 0) (sorted_unordered hb (j 0))).trans (Function.update_eq_self _ _))

/-! ## One path -/

/-- The rows a path gathers, from the order it puts them in: jnp's index wrap of the order, as a column of indices. -/
def rowsOf (ord : IVec S8192 32) : IVec S8192x1 32 :=
  broadcastInDim S8192x1 ![0] bcast_S8192_S8192x1_0
    (select (cmpi .slt ord (broadcastInDim S8192 ![] bcast_S_S8192 (constantI S_ 32 0#32)))
      (addi ord (broadcastInDim S8192 ![] bcast_S_S8192 (constantI S_ 32 8192#32))) ord)

/-- One path's result: the input's rows in the path's order, each scaled by its score times the path's mask. -/
def path (x : FVec F S8192x768 .f32) (score : FVec F S8192 .f32) (sel : IVec S8192 1) (ord : IVec S8192 32) : FVec F S8192x768 .f32 :=
  mulf (Host.gather gather_S8192x768_S8192x1_S8192x768_1_0_n_n_0_1_1768 x (rowsOf ord))
    (broadcastInDim S8192x768 ![0, 1] bcast_S8192x1_S8192x768_0_1 (broadcastInDim S8192x1 ![0] bcast_S8192_S8192x1_0
      (mulf (Host.gather gather_S8192_S8192x1_S8192_n_0_n_n_0_1_1 score (rowsOf ord))
        (uitofp .f32 (Host.gather gather_S8192_S8192x1_S8192_n_0_n_n_0_1_1 sel (rowsOf ord))))))

/-- The rows in order gather row `i` at place `i`. -/
theorem rowsOf_iota (i : Fin 8192) : rowsOf (iotaInDim S8192 32 0) (ix2 i (0 : Fin 1)) = BitVec.ofNat 32 i.val := by
  unfold rowsOf
  rw [bcCol]
  show Scalar.select (IntOp.cmpi .slt (BitVec.ofNat 32 i.val) 0#32) _ (BitVec.ofNat 32 i.val) = _
  refine wrap_of_lt _ _ ?_
  rw [BitVec.toNat_ofNat]
  have := i.isLt
  omega

/-- A path that takes the rows in order, read at one element: the input's element times its row's score times its row's mask. -/
theorem path_iota (x : FVec F S8192x768 .f32) (score : FVec F S8192 .f32) (sel : IVec S8192 1) (i : Fin 8192) (j : Fin 768) :
    path x score sel (iotaInDim S8192 32 0) (ix2 i j)
      = FloatOps.mulf (x (ix2 i j)) (FloatOps.mulf (score (ix1 i)) (FloatOps.uitofp .f32 (sel (ix1 i)))) := by
  unfold path
  show FloatOps.mulf (Host.gather _ x _ (ix2 i j)) (broadcastInDim S8192x768 _ _ _ (ix2 i j)) = _
  rw [bcRows, gather_row _ rfl rfl rfl rfl rfl x _ i j i (rowsOf_iota i) (by omega)]
  show FloatOps.mulf _ (FloatOps.mulf (Host.gather _ score _ (ix1 i)) (FloatOps.uitofp .f32 (Host.gather _ sel _ (ix1 i)))) = _
  rw [gather_take1 _ rfl rfl rfl rfl score _ i i (rowsOf_iota i) (by omega),
    gather_take1 _ rfl rfl rfl rfl sel _ i i (rowsOf_iota i) (by omega)]

/-- A path whose mask is one bit `b` at every row, taken in the order of its own argsort. -/
theorem path_const (x : FVec F S8192x768 .f32) (score : FVec F S8192 .f32) (sel : IVec S8192 1) (b : BitVec 1) (h : sel = fun _ => b)
    (i : Fin 8192) (j : Fin 768) :
    path x score sel (Host.sort2 S8192 0 comparator_i1_i32_d0 (noti sel) (iotaInDim S8192 32 0)).2 (ix2 i j)
      = FloatOps.mulf (x (ix2 i j)) (FloatOps.mulf (score (ix1 i)) (FloatOps.uitofp .f32 b)) := by
  subst h
  rw [argsort_const _ fun _ _ => rfl, path_iota]

/-! ## The scores -/

/-- A top-1 over eight columns, none of which is before column 0: the value is column 0's and the index is 0. -/
theorem top1 (gt : F .f32 → F .f32 → BitVec 1) (x : FVec F S8192x8 .f32) (i : Fin 8192) (h : ∀ k : Fin 8, gt (x (ix2 i k)) (x (ix2 i (0 : Fin 8))) = 0#1) :
    (Host.topK S8192x1 1 gt x sliceFits_S8192x8_S8192x1).1 (ix2 i (0 : Fin 1)) = x (ix2 i (0 : Fin 8))
    ∧ (Host.topK S8192x1 1 gt x sliceFits_S8192x8_S8192x1).2 (ix2 i (0 : Fin 1)) = 0#32 := by
  have al : ∀ k : Fin 8, Shape.Idx.along (s := S8192x8) (ix2 i (0 : Fin 8)) (1 : Fin 2) k = ix2 i k := fun k => by
    funext a
    match a with
    | ⟨0, _⟩ => exact Function.update_of_ne (Fin.ne_of_val_ne (by simp)) _ _
    | ⟨1, _⟩ => exact Function.update_self _ _ _
  have sl : ∀ {α : Type} (y : S8192x8.Idx → α),
      extractStridedSlice S8192x1 (fun _ => 0) y sliceFits_S8192x8_S8192x1 (ix2 i (0 : Fin 1)) = y (ix2 i (0 : Fin 8)) := fun y => by
    refine congrArg y (funext fun a => Fin.ext ?_)
    match a with
    | ⟨0, _⟩ => exact Nat.zero_add _
    | ⟨1, _⟩ => rfl
  have first : sortedFrom (fun k k' : Fin 8 =>
      gt (x (Shape.Idx.along (s := S8192x8) (ix2 i (0 : Fin 8)) (1 : Fin 2) k)) (x (Shape.Idx.along (s := S8192x8) (ix2 i (0 : Fin 8)) (1 : Fin 2) k')) == 1#1) 0 = 0 :=
    sorted_zero fun k => by rw [al, al, h k]; rfl
  constructor
  · unfold Host.topK
    dsimp only
    refine (sl _).trans ?_
    exact (congrArg (fun q => x (Shape.Idx.along (s := S8192x8) (ix2 i (0 : Fin 8)) (1 : Fin 2) q)) first).trans (congrArg x (al 0))
  · unfold Host.topK
    dsimp only
    refine (sl _).trans ?_
    exact (congrArg (fun q => iotaInDim S8192x8 32 1 (Shape.Idx.along (s := S8192x8) (ix2 i (0 : Fin 8)) (1 : Fin 2) q)) first).trans
      (congrArg (iotaInDim S8192x8 32 1) (al 0))

/-- A column of words that are not negative passes jnp's index wrap unchanged, read through the broadcast that makes it one of an index pair. -/
theorem wrapped (n : BitVec 32) (v : IVec S8192x1 32) (i : Fin 8192) (w : BitVec 32) (hv : v (ix2 i (0 : Fin 1)) = w) (hw : w.toNat < 2 ^ 31) :
    broadcastInDim S8192x1x1 ![0, 1] bcast_S8192x1_S8192x1x1_0_1
      (select (cmpi .slt v (broadcastInDim S8192x1 ![] bcast_S_S8192x1 (constantI S_ 32 0#32)))
        (addi v (broadcastInDim S8192x1 ![] bcast_S_S8192x1 (constantI S_ 32 n))) v) (ix3 i (0 : Fin 1) (0 : Fin 1)) = w := by
  have e : ∀ x : IVec S8192x1 32, broadcastInDim S8192x1x1 ![0, 1] bcast_S8192x1_S8192x1x1_0_1 x (ix3 i (0 : Fin 1) (0 : Fin 1)) = x (ix2 i (0 : Fin 1)) := fun x => by
    refine broadcastInDim_apply _ _ x _ _ fun a => ?_
    match a with
    | ⟨0, _⟩ => rfl
    | ⟨1, _⟩ => rfl
  rw [e]
  show Scalar.select (IntOp.cmpi .slt (v (ix2 i (0 : Fin 1))) 0#32) _ (v (ix2 i (0 : Fin 1))) = w
  rw [hv]
  exact wrap_of_lt _ _ hw

/-- The rows' scores before the top-1: one at column 0 of every row and zero at every other column. -/
theorem scores (V : Valuation τ sig (Elt F)) (i : Fin 8192) (k : Fin 8) :
    Value.res_main_v18 V (ix2 i k) = if k.val = 0 then (FloatOps.ofBits .f32 0x3F800000#32 : F .f32) else FloatOps.ofBits .f32 0x00000000#32 := by
  unfold Value.res_main_v18
  refine (ScatterToDense.scatter_eq_GS scatter_S8192x8_S8192x1x2_S8192x1_n_01_01_2 rfl rfl rfl (by omega) (by omega) _ _ _
    (fun _ _ => 0#32) (fun _ _ => FloatOps.ofBits .f32 0x3F800000#32) (fun i' k' => ?_) (fun i' k' => ?_) (fun _ _ => rfl) i k).trans ?_
  · obtain rfl : k' = 0 := Subsingleton.elim _ _
    refine Eq.trans ?_ (wrapped 8192#32 (Value.res_main_v3 V) i' (BitVec.ofNat 32 i'.val) (bcCol _ _ _) (by rw [BitVec.toNat_ofNat]; have := i'.isLt; omega))
    rfl
  · obtain rfl : k' = 0 := Subsingleton.elim _ _
    refine Eq.trans ?_ (wrapped 8#32 (Value.res_main_v0 V) i' 0#32 rfl (by decide))
    rfl
  · rfl

end Cert.Proof.Ref
-- ==== Proof.RefValue.lean ====
/-
  THE REFERENCE'S RESULTS over the extended reals: every row's score is one at expert 0, so path 0 takes every row in
  order at weight one and gives the input back, and each other path weighs every row by zero.
-/
module

public import proofs.«01_k».proof.Proof.RefOps
public import Idealize.ShloMosaic.Lib.Quiescent
public import Idealize.ShloMosaic.PureOps.Ideal

@[expose] public section

noncomputable section

namespace Cert.Proof.Ref

open Cert.ReferenceIdeal Cert.ReferenceIdeal.Gen
open Idealize.ShloMosaic hiding ix0 ix1 ix2 ix3 eq_ix1 eq_ix2
open Idealize.ShloMosaic.Routing Idealize.ShloMosaic.ValueIdx Idealize.ShloMosaic.StableHlo Idealize.SL.Sem

/-- The word of the float one denotes the real number one. -/
theorem one_word : (FloatOps.ofBits .f32 0x3F800000#32 : Ideal .f32) = (1 : EReal) := by
  rw [Ideal.ofBits_def]
  simp [Ideal.ofBits, Ideal.ieee, -EReal.coe_mul]
  norm_num

/-- The word of the float zero denotes the real number zero. -/
theorem zero_word : (FloatOps.ofBits .f32 0x00000000#32 : Ideal .f32) = (0 : EReal) := by
  rw [Ideal.ofBits_def]
  simp [Ideal.ofBits, Ideal.ieee]

variable (V : Valuation τ sig (Elt Ideal))

/-- No column's score is above column 0's. -/
theorem not_above (i : Fin 8192) (k : Fin 8) :
    FloatOps.cmpfTotal (F := Ideal) (φ := .f32) .gt (Value.res_main_v18 V (ix2 i k)) (Value.res_main_v18 V (ix2 i (0 : Fin 8))) = 0#1 := by
  have h : ∀ x : EReal, x ≤ 1 → FloatOps.cmpfTotal (F := Ideal) (φ := .f32) .gt x (1 : EReal) = 0#1 := fun x hx => by
    show BitVec.ofBool (decide ((1 : EReal) < x)) = 0#1
    rw [decide_eq_false (not_lt.2 hx)]
    rfl
  rw [scores, scores, if_pos (show (0 : Fin 8).val = 0 from rfl), one_word, zero_word]
  split
  · exact h 1 le_rfl
  · exact h 0 zero_le_one

/-- Every row's expert is expert 0. -/
theorem expert : Value.res_main_v19 V = fun _ => 0#32 := by
  funext j
  obtain ⟨i, rfl⟩ : ∃ i : Fin 8192, j = ix1 i := ⟨j 0, eq_ix1 j⟩
  exact (cast21 _ _ i (0 : Fin 1) i (Nat.mul_one i.val).symm).trans (top1 (FloatOps.cmpfTotal .gt) (Value.res_main_v18 V) i (not_above V i)).2

/-- Every row's score is one. -/
theorem score (i : Fin 8192) : Value.res_main_v20 V (ix1 i) = (1 : EReal) := by
  refine (cast21 _ _ i (0 : Fin 1) i (Nat.mul_one i.val).symm).trans ((top1 (FloatOps.cmpfTotal .gt) (Value.res_main_v18 V) i (not_above V i)).1.trans ?_)
  rw [scores, if_pos (show (0 : Fin 8).val = 0 from rfl), one_word]

/-- The path of expert 0, whose mask is set at every row, is the input. -/
theorem path_taken (x : FVec Ideal S8192x768 .f32) (sel : IVec S8192 1) (h : sel = fun _ => 1#1) :
    path x (Value.res_main_v20 V) sel (Host.sort2 S8192 0 comparator_i1_i32_d0 (noti sel) (iotaInDim S8192 32 0)).2 = x := by
  funext j
  obtain ⟨i, k, rfl⟩ : ∃ (i : Fin 8192) (k : Fin 768), j = ix2 i k := ⟨j 0, j 1, eq_ix2 j⟩
  refine (path_const x _ sel _ h i k).trans ?_
  rw [score]
  show (x _ : EReal) * ((1 : EReal) * (((1#1 : BitVec 1).toNat : ℝ) : EReal)) = x _
  simp

/-- The path of an expert no row takes is zero. -/
theorem path_empty (x : FVec Ideal S8192x768 .f32) (sel : IVec S8192 1) (h : sel = fun _ => 0#1) :
    path x (Value.res_main_v20 V) sel (Host.sort2 S8192 0 comparator_i1_i32_d0 (noti sel) (iotaInDim S8192 32 0)).2
      = fun _ => (FloatOps.ofBits .f32 0x00000000#32 : Ideal .f32) := by
  funext j
  obtain ⟨i, k, rfl⟩ : ∃ (i : Fin 8192) (k : Fin 768), j = ix2 i k := ⟨j 0, j 1, eq_ix2 j⟩
  refine (path_const x _ sel _ h i k).trans ?_
  rw [score, zero_word]
  show (x _ : EReal) * ((1 : EReal) * (((0#1 : BitVec 1).toNat : ℝ) : EReal)) = 0
  simp

/-- Whether a row's expert is expert `n`, at every row: the bit of `0 = n`. -/
theorem mask (n : BitVec 32) :
    cmpi .eq (Value.res_main_v19 V) (broadcastInDim S8192 ![] bcast_S_S8192 (constantI S_ 32 n)) = fun _ => IntOp.cmpi .eq 0#32 n := by
  rw [expert]
  rfl

/-- An array of zeros. -/
abbrev zeros : FVec Ideal S8192x768 .f32 := fun _ => FloatOps.ofBits .f32 0x00000000#32

/-- The reference ends with the input at its first result, zeros at the other seven, its argument unchanged and no
    semaphore raised. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v50) = m ((c.tc : Thread nD τ).loc main_arg0)
      ∧ r.2.mem ((c.tc : Thread nD τ).loc main_v80) = zeros
      ∧ r.2.mem ((c.tc : Thread nD τ).loc main_v110) = zeros
      ∧ r.2.mem ((c.tc : Thread nD τ).loc main_v140) = zeros
      ∧ r.2.mem ((c.tc : Thread nD τ).loc main_v170) = zeros
      ∧ r.2.mem ((c.tc : Thread nD τ).loc main_v200) = zeros
      ∧ r.2.mem ((c.tc : Thread nD τ).loc main_v230) = zeros
      ∧ r.2.mem ((c.tc : Thread nD τ).loc main_v260) = zeros
      ∧ r.2.mem ((c.tc : Thread nD τ).loc main_arg0) = m ((c.tc : Thread nD τ).loc main_arg0))
      ∧ r.2.sem = fun _ => 0) :=
  (θ_run (defs (F := Ideal)) _ _).mono (fun r h => ⟨fun c =>
    have ⟨h0, h1, h2, h3, h4, h5, h6, h7, ha⟩ := h c
    ⟨h0.trans (path_taken _ _ _ (mask _ 0#32)), h1.trans (path_empty _ _ _ (mask _ 1#32)), h2.trans (path_empty _ _ _ (mask _ 2#32)),
      h3.trans (path_empty _ _ _ (mask _ 3#32)), h4.trans (path_empty _ _ _ (mask _ 4#32)), h5.trans (path_empty _ _ _ (mask _ 5#32)),
      h6.trans (path_empty _ _ _ (mask _ 6#32)), h7.trans (path_empty _ _ _ (mask _ 7#32)), ha⟩,
    sem_eq_zero_of_no_sems rfl r.2⟩) (Value.run (F := Ideal) m ρ)

end Cert.Proof.Ref
-- ==== Proof.lean ====
/-
  The proof of `Cert.Claim`: the kernel terminates with its argument unchanged and every semaphore counter at zero, read at
  float bits and at extended reals; so does the reference; and over the extended reals the two end with equal results.
  The kernel's run is proved once, for any float values (Proof/Run.lean); the reference's results are in Proof/RefValue.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.SL.Sem

/-! ## The two printed programs are one -/

section

variable {F : FTy → Type} [FloatOps F]

/-- The two programs' kernel functions agree, processor by processor and label by label. -/
theorem bodies_same (p : Proc Cert.KernelIdeal.τ) (l : Fin 2) (a : Cert.KernelIdeal.Λ₀.Args l) :
    Cert.Kernel.defs₀ (F := F) p l a = Cert.KernelIdeal.defs₀ (F := F) p l a := by
  match p, l, a with
  | .scVector _ _, ⟨0, _⟩, _ => rfl
  | .scVector _ _, ⟨1, _⟩, _ => rfl
  | .tc, ⟨0, _⟩, _ => rfl
  | .tc, ⟨1, _⟩, (_, _) => rfl
  | .scScalar _, ⟨0, _⟩, _ => rfl
  | .scScalar _, ⟨1, _⟩, _ => rfl

/-- So do their whole body tables. -/
theorem defs_same :
    (Cert.Kernel.defs (F := F) : Defs Cert.KernelIdeal.nD Cert.KernelIdeal.τ Cert.KernelIdeal.sig (Elt F) _) = Cert.KernelIdeal.defs (F := F) :=
  congrArg (fun d => (Cert.KernelIdeal.sc (F := F)).defs (Pipeline.defs Cert.KernelIdeal.pcfgs d))
    (funext fun p => funext fun l => funext fun a => bodies_same p l a)

end

/-! ## The claims -/

/-- The kernel at float bits terminates, its argument unchanged and every counter at zero: the two printed programs have one
    text, so this is the run at bits. -/
theorem frame_kernel : Cert.quiescent_Kernel := fun m ρ _ => by
  have h := (θ_run (Cert.KernelIdeal.defs (F := Bits)) (Cert.KernelIdeal.threads (F := Bits)) ⟨m, fun _ => 0, ρ⟩).mono
    (fun r (h : Run.QC (F := Bits) m r) => (⟨fun c => (h.1 c Cert.KernelIdeal.main_arg0 rfl).trans (Run.done_arg0 (F := Bits) m c), h.2⟩ :
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0))
    (Run.run_main (F := Bits) m ρ)
  rw [← defs_same] at h
  exact h

/-- The kernel over the extended reals terminates, its argument unchanged and every counter at zero. -/
theorem frame_kernelIdeal : Cert.quiescent_KernelIdeal := fun m ρ _ =>
  (θ_run (Cert.KernelIdeal.defs (F := Ideal)) _ _).mono
    (fun _ h => ⟨fun c => (h.1 c Cert.KernelIdeal.main_arg0 rfl).trans (Run.done_arg0 (F := Ideal) m c), h.2⟩) (Run.run_main (F := Ideal) m ρ)

/-- The reference terminates, its argument unchanged and every counter at zero. -/
theorem frame_reference : Cert.quiescent_ReferenceIdeal := fun m ρ _ =>
  (θ_run (Cert.ReferenceIdeal.defs (F := Ideal)) _ _).mono
    (fun _ h => ⟨fun c => (h.1 c).2.2.2.2.2.2.2.2, h.2⟩) (Ref.run m ρ)

/-- Over the extended reals, from equal arguments, kernel and reference end with equal results: the first is the argument
    itself, the other seven are zero. -/
theorem algebraic : Cert.algebraic_KernelIdeal_ReferenceIdeal := fun m ρ m' ρ' _ e =>
  ⟨fun c => Copy.copied (F := Ideal) m c, fun _ => Ref.zeros, fun _ => Ref.zeros, fun _ => Ref.zeros, fun _ => Ref.zeros, fun _ => Ref.zeros,
    fun _ => Ref.zeros, fun _ => Ref.zeros,
    (θ_run (Cert.KernelIdeal.defs (F := Ideal)) _ _).mono (fun _ h c =>
      ⟨(h.1 c Cert.KernelIdeal.main_v0 rfl).trans (Run.done_v0 (F := Ideal) m c),
        (h.1 c Cert.KernelIdeal.main_v1_0 rfl).trans (Run.done_v1_0 (F := Ideal) m c),
        (h.1 c Cert.KernelIdeal.main_v1_1 rfl).trans (Run.done_v1_1 (F := Ideal) m c),
        (h.1 c Cert.KernelIdeal.main_v1_2 rfl).trans (Run.done_v1_2 (F := Ideal) m c),
        (h.1 c Cert.KernelIdeal.main_v1_3 rfl).trans (Run.done_v1_3 (F := Ideal) m c),
        (h.1 c Cert.KernelIdeal.main_v1_4 rfl).trans (Run.done_v1_4 (F := Ideal) m c),
        (h.1 c Cert.KernelIdeal.main_v1_5 rfl).trans (Run.done_v1_5 (F := Ideal) m c),
        (h.1 c Cert.KernelIdeal.main_v1_6 rfl).trans (Run.done_v1_6 (F := Ideal) m c),
        (h.1 c Cert.KernelIdeal.main_arg0 rfl).trans (Run.done_arg0 (F := Ideal) m c)⟩) (Run.run_main (F := Ideal) m ρ),
    (θ_run (Cert.ReferenceIdeal.defs (F := Ideal)) _ _).mono (fun _ h c =>
      have ⟨h0, hr⟩ := h.1 c
      ⟨h0.trans (e c), hr⟩) (Ref.run m' ρ')⟩

/-- Everything the certificate claims. No operation was rewritten, so preservation asks nothing. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
